-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x32 : Shape := ⟨2, ![8192, 32]⟩
abbrev S1 : Shape := ⟨1, ![1]⟩
abbrev S2048x32 : Shape := ⟨2, ![2048, 32]⟩
abbrev S2048x8192 : Shape := ⟨2, ![2048, 8192]⟩
abbrev S2048 : Shape := ⟨1, ![2048]⟩
abbrev S2048x1 : Shape := ⟨2, ![2048, 1]⟩
abbrev S1x2048x1 : Shape := ⟨3, ![1, 2048, 1]⟩
abbrev S1x1x1 : Shape := ⟨3, ![1, 1, 1]⟩

abbrev nBuf : Space → Nat
  | .hbm => 3
  | .vmem => 3
  | .smem => 1
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S1, .f32⟩
  | .local _ .vmem, ⟨0, _⟩ => ⟨S2048x32, .f32⟩
  | .local _ .vmem, ⟨1, _⟩ => ⟨S2048x32, .f32⟩
  | .local _ .vmem, ⟨2, _⟩ => ⟨S8192x32, .f32⟩
  | .local _ .smem, ⟨0, _⟩ => ⟨S1, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c2048_i32 : BitVec 32 := 2048#32
  let v15 : BitVec 32 := Scalar.muli arg0 c2048_i32
  let v16 : Index := Scalar.indexCast v15
  let c0_7 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S8192x32 : Shape := ⟨2, ![8192, 32]⟩
abbrev S8192x8192 : Shape := ⟨2, ![8192, 8192]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S8191 : Shape := ⟨1, ![8191]⟩
abbrev S1x8191 : Shape := ⟨2, ![1, 8191]⟩
abbrev S8192x8191 : Shape := ⟨2, ![8192, 8191]⟩
abbrev S8192x8191x1 : Shape := ⟨3, ![8192, 8191, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S8192, .i32⟩
  | .hbm, ⟨4, _⟩ => ⟨S8192x1, .i32⟩
  | .hbm, ⟨5, _⟩ => ⟨S_, .i32⟩
  | .hbm, ⟨6, _⟩ => ⟨S8192x1, .i32⟩
  | .hbm, ⟨7, _⟩ => ⟨S8192x1, .i1⟩
  | .hbm, ⟨8, _⟩ => ⟨S_, .i32⟩
  | .hbm, ⟨9, _⟩ => ⟨S8192x1, .i32⟩
  | .hbm, ⟨10, _⟩ => ⟨S8192x1, .i32⟩
  | .hbm, ⟨11, _⟩ => ⟨S8192x1, .i32⟩
  | .hbm, ⟨12, _⟩ => ⟨S8192x1x1, .i32⟩
  | .hbm, ⟨13, _⟩ => ⟨S1, .i32⟩
  | .hbm, ⟨14, _⟩ => ⟨S_, .i32⟩
  | .hbm, ⟨15, _⟩ => ⟨S8192x1x1, .i32⟩
  | .hbm, ⟨16, _⟩ => ⟨S8192x1x1, .i1⟩
  | .hbm, ⟨17, _⟩ => ⟨S1x1x1, .i32⟩
  | .hbm, ⟨18, _⟩ => ⟨S8192x1x1, .i32⟩
  | .hbm, ⟨19, _⟩ => ⟨S8192x1x1, .i1⟩
  | .hbm, ⟨20, _⟩ => ⟨S8192x1x1, .i1⟩
  | .hbm, ⟨21, _⟩ => ⟨S_, .i1⟩
  | .hbm, ⟨22, _⟩ => ⟨S8192x1, .i1⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8191, .i32⟩
  | .hbm, ⟨28, _⟩ => ⟨S1x8191, .i32⟩
  | .hbm, ⟨29, _⟩ => ⟨S8192x8191, .i32⟩
  | .hbm, ⟨30, _⟩ => ⟨S8192x8191, .i32⟩
  | .hbm, ⟨31, _⟩ => ⟨S8192x8191, .i1⟩
  | .hbm, ⟨32, _⟩ => ⟨S8192x8191, .i32⟩
  | .hbm, ⟨33, _⟩ => ⟨S8192x8191, .i32⟩
  | .hbm, ⟨34, _⟩ => ⟨S8192x8191, .i32⟩
  | .hbm, ⟨35, _⟩ => ⟨S_, .i32⟩
  | .hbm, ⟨36, _⟩ => ⟨S8192x8191, .i32⟩
  | .hbm, ⟨37, _⟩ => ⟨S8192x8191, .i1⟩
  | .hbm, ⟨38, _⟩ => ⟨S_, .i32⟩
  | .hbm, ⟨39, _⟩ => ⟨S8192x8191, .i32⟩
  | .hbm, ⟨40, _⟩ => ⟨S8192x8191, .i32⟩
  | .hbm, ⟨41, _⟩ => ⟨S8192x8191, .i32⟩
  | .hbm, ⟨42, _⟩ => ⟨S8192x8191x1, .i32⟩
  | .hbm, ⟨43, _⟩ => ⟨S1, .i32⟩
  | .hbm, ⟨44, _⟩ => ⟨S_, .i32⟩
  | .hbm, ⟨45, _⟩ => ⟨S8192x8191x1, .i32⟩
  | .hbm, ⟨46, _⟩ => ⟨S8192x8191x1, .i1⟩
  | .hbm, ⟨47, _⟩ => ⟨S1x1x1, .i32⟩
  | .hbm, ⟨48, _⟩ => ⟨S8192x8191x1, .i32⟩
  | .hbm, ⟨49, _⟩ => ⟨S8192x8191x1, .i1⟩
  | .hbm, ⟨50, _⟩ => ⟨S8192x8191x1, .i1⟩
  | .hbm, ⟨51, _⟩ => ⟨S_, .i1⟩
  | .hbm, ⟨52, _⟩ => ⟨S8192x8191, .i1⟩
  | .hbm, ⟨53, _⟩ => ⟨S8192x8191, .f32⟩
  | .hbm, ⟨54, _⟩ => ⟨S_, .f32⟩
  | .hbm, ⟨55, _⟩ => ⟨S8192x8191, .f32⟩
  | .hbm, ⟨56, _⟩ => ⟨S8192x8191, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .i1⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x1, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_cst : Ref sig .tc := ⟨.hbm, 58, rfl⟩
abbrev main_v14 : Ref sig .tc := ⟨.hbm, 59, rfl⟩
abbrev main_v15 : Ref sig .tc := ⟨.hbm, 60, rfl⟩
abbrev main_cst_0 : Ref sig .tc := ⟨.hbm, 61, rfl⟩
abbrev main_v16 : Ref sig .tc := ⟨.hbm, 62, rfl⟩
abbrev main_v17 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_2 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_3 : Ref sig .tc := ⟨.hbm, 79, rfl⟩
abbrev main_v29 : Ref sig .tc := ⟨.hbm, 80, rfl⟩
abbrev main_cst_4 : Ref sig .tc := ⟨.hbm, 81, rfl⟩
abbrev main_v30 : Ref sig .tc := ⟨.hbm, 82, rfl⟩
abbrev main_v31 : Ref sig .tc := ⟨.hbm, 83, rfl⟩

abbrev nD : Nat := 1
abbrev τ : Topo := Topo.v7x

variable {F : FTy → Type} [FloatOps F]
-- ==== Proof.Algebra.lean ====
/- The arithmetic on the extended reals that the two programs differ by: powers of two against
   powers of e, a row of exponentials shifted by a real number, a row read in another order, and a
   sum taken in four blocks. No program is named here. -/
module

public import Idealize.ShloMosaic.PureOps.Ideal

@[expose] public section

noncomputable section

namespace Cert.Algebra

open Idealize.ShloMosaic
open scoped BigOperators

/-- The real `1 / log 2` is positive. -/
theorem invLog2_pos : 0 < (Real.log 2)⁻¹ := inv_pos.mpr (Real.log_pos (by norm_num))

/-- A positive real factor leaves a finite sum of extended reals: `∑ (f k · a) = (∑ f k) · a`. -/
theorem sum_mul_real {ι : Type} (s : Finset ι) (f : ι → EReal) {a : ℝ} (ha : 0 < a) :
    ∑ k ∈ s, f k * (a : EReal) = (∑ k ∈ s, f k) * (a : EReal) := by
  classical
  have h0 : (0 : EReal) ≤ (a : EReal) := by exact_mod_cast ha.le
  induction s using Finset.induction_on with
  | empty => simp
  | insert i s hi ih =>
    rw [Finset.sum_insert hi, Finset.sum_insert hi, ih, mul_comm (f i + _),
      EReal.left_distrib_of_nonneg_of_ne_top h0 (EReal.coe_ne_top a), mul_comm, mul_comm (a : EReal) (∑ k ∈ s, f k)]

/-- An inner product whose left factors are scaled by a positive real is the scaled inner product. -/
theorem inner_scale {n : Nat} (x y : Fin n → EReal) {a : ℝ} (ha : 0 < a) :
    ∑ d, x d * (a : EReal) * y d = (∑ d, x d * y d) * (a : EReal) := by
  rw [← sum_mul_real _ _ ha]
  exact Finset.sum_congr rfl fun d _ => mul_right_comm _ _ _

/-- `2` to the power `x / log 2` is `e` to the power `x`, at the infinities too. -/
theorem exp2_scale (x : EReal) : Ideal.exp2 (x * (((Real.log 2)⁻¹ : ℝ) : EReal)) = Ideal.exp x := by
  have hl : Real.log 2 ≠ 0 := (Real.log_pos (by norm_num)).ne'
  induction x using EReal.rec with
  | bot => rw [EReal.bot_mul_coe_of_pos invLog2_pos]; rfl
  | top => rw [EReal.top_mul_coe_of_pos invLog2_pos]; rfl
  | coe r =>
    rw [← EReal.coe_mul, Ideal.exp2_coe, Ideal.exp_coe, Real.rpow_eq_pow,
      Real.rpow_def_of_pos (by norm_num : (0 : ℝ) < 2), mul_comm r, mul_inv_cancel_left₀ hl]

/-- Scaling by `1 / log 2` and then by `log 2` changes nothing. -/
theorem log2_round (x : EReal) : x * (((Real.log 2)⁻¹ : ℝ) : EReal) * ((Real.log 2 : ℝ) : EReal) = x := by
  have hl : Real.log 2 ≠ 0 := (Real.log_pos (by norm_num)).ne'
  rw [mul_assoc, ← EReal.coe_mul, inv_mul_cancel₀ hl, EReal.coe_one, mul_one]

/-- An exponential is never negative. -/
theorem exp_nonneg (x : EReal) : 0 ≤ Ideal.exp x := by
  induction x using EReal.rec with
  | bot => exact le_refl _
  | top => exact le_top
  | coe r => rw [Ideal.exp_coe]; exact_mod_cast (Real.exp_pos r).le

/-- The exponential of a value lowered by a real number is the exponential of the value times a
    positive real. -/
theorem exp_sub_real (x : EReal) (a : ℝ) :
    Ideal.exp (x - (a : EReal)) = Ideal.exp x * ((Real.exp (-a) : ℝ) : EReal) := by
  induction x using EReal.rec with
  | bot => rw [EReal.bot_sub, Ideal.exp_bot, zero_mul]
  | top => rw [EReal.top_sub_coe, Ideal.exp_top, EReal.top_mul_coe_of_pos (Real.exp_pos _)]
  | coe r => rw [← EReal.coe_sub, Ideal.exp_coe, Ideal.exp_coe, ← EReal.coe_mul, ← Real.exp_add, sub_eq_add_neg]

/-- The logarithm of a nonnegative value times `e ^ (-a)`, raised by `a`, is the value's logarithm. -/
theorem log_mul_exp (s : EReal) (hs : 0 ≤ s) (a : ℝ) :
    Ideal.log (s * ((Real.exp (-a) : ℝ) : EReal)) + (a : EReal) = Ideal.log s := by
  induction s using EReal.rec with
  | bot => exact absurd hs (by simp)
  | top => rw [EReal.top_mul_coe_of_pos (Real.exp_pos _), Ideal.log_top, EReal.top_add_coe]
  | coe r =>
    have hr : 0 ≤ r := by exact_mod_cast hs
    rw [← EReal.coe_mul, Ideal.log_coe, Ideal.log_coe]
    rcases hr.eq_or_lt with rfl | hr
    · simp
    · rw [if_neg (by have := mul_pos hr (Real.exp_pos (-a)); linarith), if_neg (by linarith), ← EReal.coe_add,
        Real.log_mul hr.ne' (Real.exp_pos _).ne', Real.log_exp]
      congr 1; ring

/-- LOG-SUM-EXP AT ANY REAL SHIFT: `log (∑ exp (x k - a)) + a = log (∑ exp (x k))`. -/
theorem logsumexp_shift {n : Nat} (x : Fin n → EReal) (a : ℝ) :
    Ideal.log (∑ k, Ideal.exp (x k - (a : EReal))) + (a : EReal) = Ideal.log (∑ k, Ideal.exp (x k)) := by
  simp only [exp_sub_real]
  rw [sum_mul_real _ _ (Real.exp_pos _), log_mul_exp _ (Finset.sum_nonneg fun k _ => exp_nonneg _)]

/-- A value whose magnitude is below infinity is a real, and zero stands in for the rest: the shift a
    guarded log-sum-exp takes is always a real number. -/
theorem guard_real (x : EReal) : ∃ a : ℝ, (if max x (-x) < ⊤ then x else 0) = (a : EReal) := by
  induction x using EReal.rec with
  | bot => exact ⟨0, by simp⟩
  | top => exact ⟨0, by simp⟩
  | coe r =>
    refine ⟨r, if_pos (max_lt (EReal.coe_lt_top r) ?_)⟩
    rw [← EReal.coe_neg]; exact EReal.coe_lt_top _

/-- A row read from its entry `i` on and then through the others in order has the row's sum. -/
theorem sum_cons_succAbove (i : Fin 8192) (f : Fin 8192 → EReal) (g : Fin 8192 → EReal) (h0 : g 0 = f i)
    (hs : ∀ k : Fin 8191, g k.succ = f (Fin.succAbove i k)) : ∑ k, g k = ∑ k, f k := by
  rw [Fin.sum_univ_succ (n := 8191) g, Fin.sum_univ_succAbove (n := 8191) f i, h0]
  simp only [hs]

/-- A sum over 8192 rows is the sum over four blocks of the sums over their 2048 rows. -/
theorem sum_blocks (f : Fin 8192 → EReal) (g : Fin 4 → Fin 2048 → EReal)
    (h : ∀ t r, g t r = f ⟨2048 * t.val + r.val, by omega⟩) : ∑ i, f i = ∑ t, ∑ r, g t r := by
  rw [← Fintype.sum_prod_type' (f := g)]
  refine (Fintype.sum_equiv (finProdFinEquiv.trans (finCongr (by norm_num : 4 * 2048 = 8192))) _ _ ?_).symm
  rintro ⟨t, r⟩
  rw [h]
  congr 1
  apply Fin.ext
  simp [finProdFinEquiv, Nat.add_comm]

end Cert.Algebra

end
-- ==== Proof.Payload.lean ====
/- What one grid point of the kernel adds to the running loss, and what the last point stores, read as
   sums over the extended reals. -/
module

public import proofs.«01_k».proof.Proof.Gen.KernelIdeal.Skeleton
public import proofs.«01_k».proof.Proof.Algebra
public import Idealize.ShloMosaic.PureOps.IdealRules
public import Idealize.ShloMosaic.Lib.Pointwise

@[expose] public section

noncomputable section

namespace Cert.KernelIdeal.Payload

open Cert.KernelIdeal Cert.KernelIdeal.Gen Idealize.ShloMosaic
open scoped BigOperators

/-- The kernel's constant `log2 e` denotes the real `1 / log 2`. -/
theorem log2e_eq : Named.named (F := Ideal) κ "log2e" (φ := .f32) 0x3FB8AA3B#32 = (((Real.log 2)⁻¹ : ℝ) : EReal) :=
  IdealRules.named_const.ideal_named_scalar _ _ _ _ rfl

/-- The kernel's constant `ln 2` denotes the real `log 2`. -/
theorem ln2_eq : Named.named (F := Ideal) κ "ln2" (φ := .f32) 0x3F317218#32 = ((Real.log 2 : ℝ) : EReal) :=
  IdealRules.named_const.ideal_named_scalar _ _ _ _ rfl

/-- What one point adds: over its 2048 rows `x` against all rows `y`, the log-sum-exp of the row's scores less the
    row's score against its own partner in `z`. -/
def part (x : S2048x32.Idx → EReal) (y : S8192x32.Idx → EReal) (z : S2048x32.Idx → EReal) : EReal :=
  ∑ r : Fin 2048, (Ideal.log (∑ k : Fin 8192, Ideal.exp (∑ d : Fin 32, x (ix2 r d) * y (ix2 k d)))
    - ∑ d : Fin 32, x (ix2 r d) * z (ix2 r d))

set_option maxRecDepth 16384 in
/-- The value a point stores is the running loss plus the point's part. -/
theorem pay1_eq (x : Vec Ideal S2048x32 .f32) (y : Vec Ideal S8192x32 .f32) (z : Vec Ideal S2048x32 .f32)
    (acc : Elt Ideal .f32) : k0_pay1 x y z acc = (acc + part x y z : EReal) := by
  pointwise [k0_pay1, part]
  simp only [log2e_eq, ln2_eq, Algebra.log2_round]
  simp only [Finset.sum_const, Finset.card_univ, Fintype.card_fin, one_smul]
  refine congrArg (acc + ·) (Finset.sum_congr rfl fun r _ => ?_)
  have hk : ∀ k : Fin 8192, (FloatOps.exp2 (F := Ideal) (φ := .f32)
      (∑ d : Fin 32, x (ix2 r d) * (((Real.log 2)⁻¹ : ℝ) : EReal) * y (ix2 k d)) : EReal)
      = Ideal.exp (∑ d : Fin 32, x (ix2 r d) * y (ix2 k d)) := fun k =>
    (congrArg Ideal.exp2 (Algebra.inner_scale _ _ Algebra.invLog2_pos)).trans (Algebra.exp2_scale _)
  exact congrArg (fun t => Ideal.log t - ∑ d : Fin 32, x (ix2 r d) * z (ix2 r d))
    (Finset.sum_congr rfl fun k _ => hk k)

/-- The value the last point stores is the running loss over 8192. -/
theorem pay2_eq (acc : Elt Ideal .f32) : k0_pay2 acc = Ideal.div acc (Ideal.ofBits .f32 0x46000000#32) := rfl

end Cert.KernelIdeal.Payload

end
-- ==== Proof.Spec.lean ====
/- The loss both programs compute, as a function of the two arrays over the extended reals. -/
module

public import Idealize.ShloMosaic.PureOps.Ideal
public import Idealize.ShloMosaic.Lib.Pointwise

@[expose] public section

noncomputable section

namespace Cert.Spec

open Idealize.ShloMosaic
open scoped BigOperators

/-- An array of 8192 rows of 32 extended reals. -/
abbrev Rows : Type := (⟨2, ![8192, 32]⟩ : Shape).Idx → EReal

/-- The score of row `i` of `a` against row `k` of `b`: their inner product. -/
def score (a b : Rows) (i k : Fin 8192) : EReal := ∑ d : Fin 32, a (ix2 i d) * b (ix2 k d)

/-- Row `i`'s cross entropy with the positive at `(i, i)`: the log-sum-exp of its scores less its own score. -/
def rowLoss (a b : Rows) (i : Fin 8192) : EReal :=
  Ideal.log (∑ k : Fin 8192, Ideal.exp (score a b i k)) - score a b i i

/-- The loss: the mean of the rows' cross entropies. -/
def loss (a b : Rows) : EReal := Ideal.div (∑ i : Fin 8192, rowLoss a b i) (Ideal.ofBits .f32 0x46000000#32)

end Cert.Spec

end
-- ==== Proof.KernelValue.lean ====
/- What the idealized kernel's result array holds after the run: the loss of the specification. Each grid
   point's stored value is read back from the run, the four points' values are chained, and their
   blocks of rows are put together. -/
module

public import proofs.«01_k».proof.Proof.Gen.KernelIdeal.Value
public import proofs.«01_k».proof.Proof.Payload
public import proofs.«01_k».proof.Proof.Spec
public import Idealize.ShloMosaic.Lib.Tactic

@[expose] public section

noncomputable section

namespace Cert.KernelIdeal.Points

open Cert.KernelIdeal Cert.KernelIdeal.Gen Idealize.ShloMosaic Idealize.ShloMosaic.TcCoe Idealize.SL.Sem
open Idealize.ShloMosaic.Pipeline (Dat)
open scoped BigOperators

/-! ## What each case of the body leaves in the result's staging buffer -/

section Body

variable {F : FTy → Type} [FloatOps F] [Named F]

/-- The offsets of a load of a whole matrix are zero. -/
theorem zero2 : (![0, 0] : Fin 2 → Nat) = fun _ => 0 := funext fun a => by fin_cases a <;> rfl

/-- The offset of an access of the one-element buffer is zero. -/
theorem zero1 : (![0] : Fin 1 → Nat) = fun _ => 0 := funext fun a => by fin_cases a; rfl

/-- The one-element buffer has one index. -/
theorem idx_one (j j' : S1.Idx) : j = j' :=
  funext fun a => match a with | ⟨0, _⟩ => Subsingleton.elim (α := Fin 1) _ _

/-- The partners of point `i`'s rows: 2048 rows of `y` from the point's offset on. -/
abbrev partners (i : grid0.Coords) (y : Vec F S8192x32 .f32) : Vec F S2048x32 .f32 :=
  View.ld y (Rect.unit (s := S8192x32) (k0_off1 i) S2048x32.size (k0_off1_inb i))

/-- The first point stores its value over the zero it has just stored. -/
theorem out_A (c : Dev nD) (i : grid0.Coords) (a1 : Memref sig .tc .vmem S2048x32 .f32) (h1 : a1.IsWhole)
    (a2 : Memref sig .tc .vmem S8192x32 .f32) (h2 : a2.IsWhole) (a3 : Memref sig .tc .smem S1 .f32) (h3 : a3.IsWhole)
    (hc0 : cond0_0 i) (hc1 : ¬cond0_1 i) (x : Vec F S2048x32 .f32) (y : Vec F S8192x32 .f32) :
    out0_A_2 c i a1 h1 a2 h2 a3 h3 hc0 hc1 x y
      = fun _ => k0_pay1 x y (partners i y) (Scalar.ofBits .f32 0x00000000#32) := by
  unfold out0_A_2
  rw [View.read_writes_eq_canon _ _ _ (cover0_A_2 c i a1 h1 a2 h2 a3 h3 hc0 hc1 x y)]
  unfold kernelRun0_A
  dsimp only
  sl_unfold_words
  rw [View.canon_cons_unit_zero (S := S1) zero1]
  simp only [View.readCov_unit_zero (S := S1) _ zero1, View.readAt_eq_ld, h1.read_unread, h2.read_unread,
    View.ld_unit_zero (S := S2048x32) zero2, View.ld_unit_zero (S := S8192x32) zero2, shapeCast_self]
  rfl

/-- A point between the first and the last stores its value over what the point before left. -/
theorem out_B (c : Dev nD) (i : grid0.Coords) (a1 : Memref sig .tc .vmem S2048x32 .f32) (h1 : a1.IsWhole)
    (a2 : Memref sig .tc .vmem S8192x32 .f32) (h2 : a2.IsWhole) (a3 : Memref sig .tc .smem S1 .f32) (h3 : a3.IsWhole)
    (hc0 : ¬cond0_0 i) (hc1 : ¬cond0_1 i) (x : Vec F S2048x32 .f32) (y : Vec F S8192x32 .f32) (o : Vec F S1 .f32) :
    out0_B_2 c i a1 h1 a2 h2 a3 h3 hc0 hc1 x y o = fun _ => k0_pay1 x y (partners i y) (o (ix1 0)) := by
  unfold out0_B_2
  rw [View.read_writes_eq_canon _ _ _ (cover0_B_2 c i a1 h1 a2 h2 a3 h3 hc0 hc1 x y o)]
  unfold kernelRun0_B
  dsimp only
  sl_unfold_words
  rw [View.canon_unit_zero zero1]
  simp only [View.readAt_eq_ld, h1.read_unread, h2.read_unread, h3.read_unread, View.ld_unit_zero (S := S2048x32) zero2,
    View.ld_unit_zero (S := S8192x32) zero2, shapeCast_self]
  exact funext fun _ => congrArg (k0_pay1 x y (partners i y)) (congrArg o (idx_one _ _))

/-- The last point stores its value over what the point before left, and then that value's quotient. -/
theorem out_C (c : Dev nD) (i : grid0.Coords) (a1 : Memref sig .tc .vmem S2048x32 .f32) (h1 : a1.IsWhole)
    (a2 : Memref sig .tc .vmem S8192x32 .f32) (h2 : a2.IsWhole) (a3 : Memref sig .tc .smem S1 .f32) (h3 : a3.IsWhole)
    (hc0 : ¬cond0_0 i) (hc1 : cond0_1 i) (x : Vec F S2048x32 .f32) (y : Vec F S8192x32 .f32) (o : Vec F S1 .f32) :
    out0_C_2 c i a1 h1 a2 h2 a3 h3 hc0 hc1 x y o = fun _ => k0_pay2 (k0_pay1 x y (partners i y) (o (ix1 0))) := by
  unfold out0_C_2
  rw [View.read_writes_eq_canon _ _ _ (cover0_C_2 c i a1 h1 a2 h2 a3 h3 hc0 hc1 x y o)]
  unfold kernelRun0_C
  dsimp only
  sl_unfold_words
  rw [View.canon_cons_unit_zero (S := S1) zero1]
  simp only [View.readCov_unit_zero (S := S1) _ zero1, View.readAt_eq_ld, h1.read_unread, h2.read_unread, h3.read_unread,
    View.ld_unit_zero (S := S2048x32) zero2, View.ld_unit_zero (S := S8192x32) zero2, shapeCast_self]
  exact funext fun _ => congrArg k0_pay2 (congrArg (k0_pay1 x y (partners i y)) (congrArg o (idx_one _ _)))

end Body

/-! ## The four points over the extended reals -/

variable (m : (ℓ : Loc nD τ sig) → Buf (Elt Ideal) ℓ) (ρ : Dev nD → PrngReg)

/-- What point `t` adds to the running loss. -/
def partAt (c : Dev nD) (t : Fin cfg0.N) : EReal :=
  Payload.part (iblk m c 0 t) (iblk m c 1 t) (partners (F := Ideal) (grid0.coords t) (iblk m c 1 t))

/-- After the first point the staging buffer holds its part. -/
theorem outs_0 (c : Dev nD) : outsAt0 m c t0_0.val t0_0.isLt = fun _ => (partAt m c t0_0 : EReal) := by
  rw [outsAt0_A m c t0_0 (by decide) (by decide), out_A]
  refine funext fun _ => (Payload.pay1_eq _ _ _ _).trans ?_
  show Ideal.ofBits .f32 0x00000000#32 + partAt m c t0_0 = partAt m c t0_0
  rw [Ideal.ofBits_zero_f32, zero_add]

/-- After the second point it holds the first two parts' sum. -/
theorem outs_1 (c : Dev nD) : outsAt0 m c t0_1.val t0_1.isLt = fun _ => (partAt m c t0_0 + partAt m c t0_1 : EReal) := by
  rw [outsAt0_B m c t0_1 (by decide) (by decide), out_B]
  refine funext fun _ => (Payload.pay1_eq _ _ _ _).trans ?_
  exact congrArg (· + partAt m c t0_1) (congrFun (outs_0 m c) (ix1 0))

/-- After the third point it holds the first three parts' sum. -/
theorem outs_2 (c : Dev nD) : outsAt0 m c t0_2.val t0_2.isLt
    = fun _ => (partAt m c t0_0 + partAt m c t0_1 + partAt m c t0_2 : EReal) := by
  rw [outsAt0_B m c t0_2 (by decide) (by decide), out_B]
  refine funext fun _ => (Payload.pay1_eq _ _ _ _).trans ?_
  exact congrArg (· + partAt m c t0_2) (congrFun (outs_1 m c) (ix1 0))

/-- After the last point it holds the four parts' sum over 8192. -/
theorem outs_3 (c : Dev nD) : outsAt0 m c t0_3.val t0_3.isLt
    = fun _ => Ideal.div (partAt m c t0_0 + partAt m c t0_1 + partAt m c t0_2 + partAt m c t0_3)
        (Ideal.ofBits .f32 0x46000000#32) := by
  rw [outsAt0_C m c t0_3 (by decide) (by decide), out_C]
  refine funext fun _ => (Payload.pay2_eq _).trans (congrArg (Ideal.div · _) ((Payload.pay1_eq _ _ _ _).trans ?_))
  exact congrArg (· + partAt m c t0_3) (congrFun (outs_2 m c) (ix1 0))

/-! ## The blocks of rows -/

/-- The first array, as launched. -/
abbrev arg0 (c : Dev nD) : Spec.Rows := m ((c : Thread nD τ).loc main_arg0)
/-- The second array, as launched. -/
abbrev arg1 (c : Dev nD) : Spec.Rows := m ((c : Thread nD τ).loc main_arg1)

/-- Point `t`'s grid coordinate is `t`. -/
theorem coords_val (t : Fin cfg0.N) : (grid0.coords t 0).val = t.val := by
  rcases fin_N0 t with rfl | rfl | rfl | rfl <;> decide

theorem lt_four (t : Fin cfg0.N) : t.val < 4 := lt_of_lt_of_eq t.isLt N_0

/-- Row `r` of point `t`'s block, as a row of the array. -/
abbrev rowAt (t : Fin cfg0.N) (r : Fin 2048) : Fin 8192 := ⟨2048 * t.val + r.val, by have := lt_four t; omega⟩

/-- Point `t`'s block of the first array is its rows from `2048 t` on. -/
theorem iblk0_apply (c : Dev nD) (t : Fin cfg0.N) (r : Fin 2048) (d : Fin 32) :
    (iblk m c 0 t : S2048x32.Idx → EReal) (ix2 r d) = arg0 m c (ix2 (rowAt t r) d) := by
  have hi : win0_0.index t 0 = t.val ∧ win0_0.index t 1 = 0 := by
    rcases fin_N0 t with rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * t.val + r.val; rw [hi.1]; omega
  | ⟨1, _⟩ => show win0_0.index t 1 * 32 + 1 * d.val = d.val; rw [hi.2]; omega

/-- Every point's block of the second array is the whole array. -/
theorem iblk1_apply (c : Dev nD) (t : Fin cfg0.N) (k : Fin 8192) (d : Fin 32) :
    (iblk m c 1 t : S8192x32.Idx → EReal) (ix2 k d) = arg1 m c (ix2 k d) := by
  have hi : win0_1.index t 0 = 0 ∧ win0_1.index t 1 = 0 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 8192 + 1 * k.val = k.val; rw [hi.1]; omega
  | ⟨1, _⟩ => show win0_1.index t 1 * 32 + 1 * d.val = d.val; rw [hi.2]; omega

/-- Point `t`'s partners are the same rows of the second array as its block is of the first. -/
theorem partners_apply (t : Fin cfg0.N) (y : Vec Ideal S8192x32 .f32) (r : Fin 2048) (d : Fin 32) :
    partners (grid0.coords t) y (ix2 r d) = y (ix2 (rowAt t r) d) := by
  have h0 : k0_off1 (grid0.coords t) 0 = 2048 * t.val := by rw [k0_off1_eq, ← coords_val]; rfl
  have h1 : k0_off1 (grid0.coords t) 1 = 0 := by rw [k0_off1_eq]; rfl
  show y _ = y _
  congr 1
  funext a
  apply Fin.ext
  match a with
  | ⟨0, _⟩ => show k0_off1 (grid0.coords t) 0 + 1 * r.val = 2048 * t.val + r.val; rw [h0]; omega
  | ⟨1, _⟩ => show k0_off1 (grid0.coords t) 1 + 1 * d.val = d.val; rw [h1]; omega

/-- Point `t`'s part is the sum of its rows' cross entropies. -/
theorem partAt_eq (c : Dev nD) (t : Fin cfg0.N) :
    partAt m c t = ∑ r : Fin 2048, Spec.rowLoss (arg0 m c) (arg1 m c) (rowAt t r) := by
  unfold partAt Payload.part Spec.rowLoss Spec.score
  have hp : ∀ (r : Fin 2048) (d : Fin 32), (partners (F := Ideal) (grid0.coords t) (iblk m c 1 t) : S2048x32.Idx → EReal)
      (ix2 r d) = arg1 m c (ix2 (rowAt t r) d) :=
    fun r d => (partners_apply t _ r d).trans (iblk1_apply m c t _ d)
  simp only [hp, iblk0_apply, iblk1_apply]

/-- The four parts together, over 8192, are the loss. -/
theorem parts_eq (c : Dev nD) :
    Ideal.div (partAt m c t0_0 + partAt m c t0_1 + partAt m c t0_2 + partAt m c t0_3) (Ideal.ofBits .f32 0x46000000#32)
      = Spec.loss (arg0 m c) (arg1 m c) := by
  unfold Spec.loss
  rw [Algebra.sum_blocks (Spec.rowLoss (arg0 m c) (arg1 m c))
    (fun t r => Spec.rowLoss (arg0 m c) (arg1 m c) ⟨2048 * t.val + r.val, by omega⟩) (fun _ _ => rfl), Fin.sum_univ_four]
  simp only [partAt_eq]
  rfl

/-! ## The result array -/

/-- The result: the loss, in an array of one element. -/
abbrev result (c : Dev nD) : Buf (Elt Ideal) ((c : Thread nD τ).loc main_v0) := fun _ => Spec.loss (arg0 m c) (arg1 m c)

/-- The one write-back, after the last point, writes the result. -/
theorem flushed_eq (c : Dev nD) (t : Fin cfg0.N) (hf : (cfg0.win 2).flush t = true) :
    (dats m 0 c).flushed 2 t = ((cfg0.win 2).blk t).view.read (Elt Ideal) (result m c) := by
  have h3 : t.val = 3 := by have := (flush0_2 t).mp hf; have := lt_four t; omega
  obtain rfl : t = t0_3 := Fin.ext h3
  rw [Value.flushed2, outs_3, parts_eq]
  rfl

/-- The result array ends holding the result. -/
theorem final (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      match a with
      | ⟨0, _⟩ =>
        show win0_2.index t0_3 0 * win0_2.size 0 ≤ (i 0 : Nat)
          ∧ (i 0 : Nat) < win0_2.index t0_3 0 * win0_2.size 0 + win0_2.xsize (grid0.coords t0_3) 0
        rw [show win0_2.index t0_3 0 * win0_2.size 0 = 0 from by decide +kernel,
          show win0_2.xsize (grid0.coords t0_3) 0 = 1 from by decide +kernel]
        omega⟩

/-- THE KERNEL'S RUN: the result is the loss of the two arrays, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Points

end
-- ==== Proof.ReferenceStages.lean ====
/- The reference's result as a composition of named stages: the matrix of scores, the two arrays of column indices,
   the scores gathered at them, the logits, and the mean cross entropy of the logits. -/
module

public import proofs.«01_k».proof.Proof.Gen.ReferenceIdeal.Run
public import proofs.«01_k».proof.Proof.Spec

@[expose] public section

noncomputable section

namespace Cert.ReferenceIdeal.Stages

open Cert.ReferenceIdeal Cert.ReferenceIdeal.Gen Idealize.ShloMosaic Idealize.ShloMosaic.TcCoe Idealize.SL.Sem

/-- An array of extended reals. -/
abbrev V (S : Shape) := FVec (F := Ideal) S FTy.f32

/-- The matrix of scores: every row of `a` against every row of `b`. -/
def scores (a b : V S8192x32) : V S8192x8192 :=
  Host.dotGeneral dot_S8192x32_S8192x32_S8192x8192_1_1_0_0_n_n none a b

/-- Every row's own number, as a column. -/
def rows : IVec S8192x1 32 := broadcastInDim S8192x1 ![0] bcast_S8192_S8192x1_0 (iotaInDim S8192 32 0)

/-- The numbers below 8191, along every row. -/
def cols : IVec S8192x8191 32 :=
  broadcastInDim S8192x8191 ![0, 1] bcast_S1x8191_S8192x8191_0_1
    (broadcastInDim S1x8191 ![1] bcast_S8191_S1x8191_1 (iotaInDim S8191 32 0))

/-- The columns off the diagonal, along every row: one more from the row's own number on. -/
def offDiag : IVec S8192x8191 32 :=
  addi cols (extui 32 (cmpi .sge cols (broadcastInDim S8192x8191 ![0, 1] bcast_S8192x1_S8192x8191_0_1 rows)) natLt_1_32)

/-- One column index per row, with 8192 added to those below zero. -/
def wrap1 (idx : IVec S8192x1 32) : IVec S8192x1x1 32 :=
  shapeCast _ (select (cmpi .slt idx (broadcastInDim S8192x1 ![] bcast_S_S8192x1 (constantI S_ 32 0#32)))
    (addi idx (broadcastInDim S8192x1 ![] bcast_S_S8192x1 (constantI S_ 32 8192#32))) idx) shapeCasts_S8192x1_S8192x1x1

/-- Whether each of them names a column. -/
def inside1 (w : IVec S8192x1x1 32) : IVec S8192x1 1 :=
  Host.reduce IntOp.andi
    (andi (cmpi .sge w (broadcastInDim S8192x1x1 ![] bcast_S_S8192x1x1 (constantI S_ 32 0#32)))
      (cmpi .sle w (broadcastInDim S8192x1x1 ![0, 1, 2] bcast_S1x1x1_S8192x1x1_0_1_2
        (broadcastInDim S1x1x1 ![2] bcast_S1_S1x1x1_2 (constantI S1 32 8191#32)))))
    (constantI S_ 1 1#1) reducesTo_S8192x1x1_S8192x1_d2 h_S_

/-- The matrix at one column index per row. -/
def take1 (s : V S8192x8192) (idx : IVec S8192x1 32) : V S8192x1 :=
  select (inside1 (wrap1 idx)) (Host.gather gather_S8192x8192_S8192x1x1_S8192x1_n_1_0_0_1_2_11 s (wrap1 idx))
    (broadcastInDim S8192x1 ![] bcast_S_S8192x1 (constant S_ .f32 0x7FC00000#32))

/-- 8191 column indices per row, with 8192 added to those below zero. -/
def wrap2 (idx : IVec S8192x8191 32) : IVec S8192x8191x1 32 :=
  shapeCast _ (select (cmpi .slt idx (broadcastInDim S8192x8191 ![] bcast_S_S8192x8191 (constantI S_ 32 0#32)))
    (addi idx (broadcastInDim S8192x8191 ![] bcast_S_S8192x8191 (constantI S_ 32 8192#32))) idx)
    shapeCasts_S8192x8191_S8192x8191x1

/-- Whether each of them names a column. -/
def inside2 (w : IVec S8192x8191x1 32) : IVec S8192x8191 1 :=
  Host.reduce IntOp.andi
    (andi (cmpi .sge w (broadcastInDim S8192x8191x1 ![] bcast_S_S8192x8191x1 (constantI S_ 32 0#32)))
      (cmpi .sle w (broadcastInDim S8192x8191x1 ![0, 1, 2] bcast_S1x1x1_S8192x8191x1_0_1_2
        (broadcastInDim S1x1x1 ![2] bcast_S1_S1x1x1_2 (constantI S1 32 8191#32)))))
    (constantI S_ 1 1#1) reducesTo_S8192x8191x1_S8192x8191_d2 h_S_

/-- The matrix at 8191 column indices per row. -/
def take2 (s : V S8192x8192) (idx : IVec S8192x8191 32) : V S8192x8191 :=
  select (inside2 (wrap2 idx)) (Host.gather gather_S8192x8192_S8192x8191x1_S8192x8191_n_1_0_0_1_2_11 s (wrap2 idx))
    (broadcastInDim S8192x8191 ![] bcast_S_S8192x8191 (constant S_ .f32 0x7FC00000#32))

/-- The logits: each row's score on the diagonal, followed by its scores off the diagonal. -/
def logits (s : V S8192x8192) : V S8192x8192 :=
  concatenate S8192x8192 1 [⟨S8192x1, take1 s rows⟩, ⟨S8192x8191, take2 s offDiag⟩]
    concatenates_S8192x1_S8192x8191_S8192x8192_d1

/-- Each row's maximum. -/
def peak (l : V S8192x8192) : V S8192 :=
  Host.reduce FloatOps.maximumf l (constant S_ .f32 0xFF800000#32) reducesTo_S8192x8192_S8192_d1 h_S_

/-- Each row's shift: the maximum where that is finite, and else zero. -/
def shift (p : V S8192) : V S8192 :=
  select (cmpf .olt (Host.absf p) (broadcastInDim S8192 ![] bcast_S_S8192 (constant S_ .f32 0x7F800000#32))) p
    (broadcastInDim S8192 ![] bcast_S_S8192 (constant S_ .f32 0x00000000#32))

/-- Each row's log-sum-exp, computed with the shift `q`. -/
def logZ (l : V S8192x8192) (q : V S8192) : V S8192 :=
  addf (Host.log (Host.reduceAdd (Host.exp (subf l (broadcastInDim S8192x8192 ![0, 1] bcast_S8192x1_S8192x8192_0_1
    (broadcastInDim S8192x1 ![0] bcast_S8192_S8192x1_0 q)))) (constant S_ .f32 0x00000000#32)
    reducesTo_S8192x8192_S8192_d1 h_S_)) q

/-- Each row's cross entropy against its first logit. -/
def entropy (l : V S8192x8192) (z : V S8192) : V S8192 :=
  subf z (shapeCast _ (extractStridedSlice S8192x1 ![0, 0] l slices_S8192x8192_S8192x1_0_0) shapeCasts_S8192x1_S8192)

/-- The mean over the rows. -/
def mean (e : V S8192) : V S1 :=
  shapeCast _ (Host.divf (Host.reduceAdd e (constant S_ .f32 0x00000000#32) reducesTo_S8192_S_d0 h_S_)
    (constant S_ .f32 0x46000000#32)) shapeCasts_S_S1

/-- The mean cross entropy of the logits `l`. -/
def crossEntropy (l : V S8192x8192) : V S1 := mean (entropy l (logZ l (shift (peak l))))

/-- The reference's result is the mean cross entropy of the logits of the scores. -/
theorem result_eq (m : (ℓ : Loc nD τ sig) → Buf (Elt Ideal) ℓ) (c : Dev nD) :
    Value.res_out0 m c
      = crossEntropy (logits (scores (m ((c.tc : Thread nD τ).loc main_arg0)) (m ((c.tc : Thread nD τ).loc main_arg1)))) := by
  unfold Value.res_out0 Value.res_main_v31
  rfl

end Cert.ReferenceIdeal.Stages

end
-- ==== Proof.Gather.lean ====
/- A gather along the columns of a matrix, one column index per element of the result, read at an index. It is the
   gather inside `take_along_axis` over axis 1; that function's handling of an index below zero or past the last
   column is read by the module that reads the reference. -/
module

public import Idealize.ShloMosaic.Lib.ValueIdxCore
public import Idealize.ShloMosaic.Lib.Pointwise

@[expose] public section

namespace Cert.Gather

open Idealize.ShloMosaic

/-- The dimension numbers for an operand `[R, N]`, start indices `[R, C, 1]` and a result `[R, C]`: the rows are a
    batching axis, the columns are indexed. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

variable {α : Type}

/-- Element `(i, k)` is the operand in row `i` at the column that start index `[i, k, 0]` names, clamped to the
    operand's columns. -/
theorem along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (i : Fin R) (k : Fin C) :
    Host.gather (alongDims R N C wf) x idx (ix2 i k)
      = x (ix2 i ⟨min (idx (ix3 i k 0)).toInt.toNat (N - 1), by omega⟩) := by
  unfold Host.gather
  refine congrArg x (funext fun a => Fin.ext ?_)
  show (alongDims R N C wf).start (ix2 i k) idx a + (alongDims R N C wf).batchCoord (ix2 i k) a
    + (alongDims R N C wf).offCoord (ix2 i k) a = _
  match a with
  | ⟨0, _⟩ =>
    have hb : (0 : Fin 2) ∈ (alongDims R N C wf).operandBatchingDims := List.mem_singleton.mpr rfl
    have hs : (alongDims R N C wf).start (ix2 i k) idx (0 : Fin 2) = 0 := GatherDims.start_batching _ _ _ _ hb
    have ho : (alongDims R N C wf).offCoord (ix2 i k) (0 : Fin 2) = 0 :=
      GatherDims.offCoord_eq_zero _ _ _ fun h => ((GatherDims.mem_sKept _ _).mp h).2 hb
    have hc : (alongDims R N C wf).batchCoord (ix2 i k) (0 : Fin 2) = i.val := by
      unfold GatherDims.batchCoord
      rw [dif_pos hb]
      rfl
    show (alongDims R N C wf).start (ix2 i k) idx (0 : Fin 2) + (alongDims R N C wf).batchCoord (ix2 i k) (0 : Fin 2)
      + (alongDims R N C wf).offCoord (ix2 i k) (0 : Fin 2) = i.val
    omega
  | ⟨1, _⟩ =>
    have hm : (1 : Fin 2) ∈ (alongDims R N C wf).startIndexMap := List.mem_singleton.mpr rfl
    have hc : (alongDims R N C wf).batchCoord (ix2 i k) (1 : Fin 2) = 0 :=
      GatherDims.batchCoord_eq_zero _ _ _ fun h => by simp at h
    have ho : (alongDims R N C wf).offCoord (ix2 i k) (1 : Fin 2) = 0 :=
      GatherDims.offCoord_eq_zero _ _ _ fun h => ((GatherDims.mem_sKept _ _).mp h).1 (List.mem_singleton.mpr rfl)
    have hs : (alongDims R N C wf).start (ix2 i k) idx (1 : Fin 2) = min (idx (ix3 i k 0)).toInt.toNat (N - 1) := by
      unfold GatherDims.start
      rw [dif_pos hm]
      have hi : (alongDims R N C wf).siIdx (ix2 i k) ⟨List.idxOf (1 : Fin 2) (alongDims R N C wf).startIndexMap,
          List.idxOf_lt_length_iff.2 hm⟩ = ix3 i k 0 :=
        funext fun b => Fin.ext (match b with | ⟨0, _⟩ => rfl | ⟨1, _⟩ => rfl | ⟨2, _⟩ => rfl)
      rw [hi]
      rfl
    show (alongDims R N C wf).start (ix2 i k) idx (1 : Fin 2) + (alongDims R N C wf).batchCoord (ix2 i k) (1 : Fin 2)
      + (alongDims R N C wf).offCoord (ix2 i k) (1 : Fin 2) = min (idx (ix3 i k 0)).toInt.toNat (N - 1)
    omega

end Cert.Gather

end
-- ==== Proof.ReferenceValue.lean ====
/- The value of the reference: each stage read at an index, and the result as the loss of the specification. -/
module

public import proofs.«01_k».proof.Proof.ReferenceStages
public import proofs.«01_k».proof.Proof.Gather
public import proofs.«01_k».proof.Proof.Algebra
public import Idealize.ShloMosaic.Lib.Pointwise
public import Idealize.ShloMosaic.Lib.Tactic.WordOmega

@[expose] public section

set_option maxRecDepth 16384

noncomputable section

namespace Cert.ReferenceIdeal.Stages

open Cert.ReferenceIdeal Cert.ReferenceIdeal.Gen Idealize.ShloMosaic Idealize.ShloMosaic.TcCoe Idealize.SL.Sem
open scoped BigOperators

/-! ## The scores and the column indices -/

/-- A score is the inner product of a row of `a` with a row of `b`. -/
theorem scores_apply (a b : V S8192x32) (i k : Fin 8192) : scores a b (ix2 i k) = Spec.score a b i k := by
  pointwise [scores, Spec.score]

/-- Row `i`'s own number is `i`. -/
theorem rows_apply (i : Fin 8192) (k : Fin 1) : rows (ix2 i k) = BitVec.ofNat 32 i.val := by
  pointwise [rows]

/-- The `k`-th column off the diagonal of row `i` is `k` before the diagonal and `k + 1` from it on. -/
theorem offDiag_apply (i : Fin 8192) (k : Fin 8191) :
    offDiag (ix2 i k) = BitVec.ofNat 32 (Fin.succAbove i k).val := by
  have hv : (Fin.succAbove i k).val = if k.val < i.val then k.val else k.val + 1 := by
    unfold Fin.succAbove
    rw [apply_ite Fin.val]
    rfl
  pointwise [offDiag, cols, rows]
  have hi := i.isLt
  have hk := k.isLt
  have hc : IntOp.cmpi .sge (BitVec.ofNat 32 k.val) (BitVec.ofNat 32 i.val) = BitVec.ofBool (decide (i.val ≤ k.val)) := by
    simp (disch := omega) only [hlo_ix]
  rw [hv, hc]
  by_cases h : k.val < i.val
  · rw [if_pos h, decide_eq_false (by omega)]
    exact BitVec.add_zero _
  · rw [if_neg h, decide_eq_true (by omega), BitVec.ofNat_add]
    rfl

/-! ## The two gathers -/

/-- A column index in range is left as it is. -/
theorem word_wrap {n : Nat} (h : n < 8192) :
    Scalar.select (IntOp.cmpi .slt (BitVec.ofNat 32 n) 0#32) (IntOp.addi (BitVec.ofNat 32 n) 8192#32) (BitVec.ofNat 32 n)
      = BitVec.ofNat 32 n := by
  word_omega

/-- A column index in range passes both of its bounds. -/
theorem word_inside {n : Nat} (h : n < 8192) :
    IntOp.andi (IntOp.andi (IntOp.cmpi .sge (BitVec.ofNat 32 n) 0#32) (IntOp.cmpi .sle (BitVec.ofNat 32 n) 8191#32)) 1#1
      = 1#1 := by
  have h0 : IntOp.cmpi .sge (BitVec.ofNat 32 n) 0#32 = 1#1 := by word_cmp
  have h1 : IntOp.cmpi .sle (BitVec.ofNat 32 n) 8191#32 = 1#1 := by word_cmp
  rw [h0, h1]
  rfl

/-- A column index in range, read signed and clamped to the last column, is itself. -/
theorem word_clamp {n : Nat} (h : n < 8192) : min (BitVec.ofNat 32 n).toInt.toNat (8192 - 1) = n := by
  word_omega

/-- One column per row: where the index is `n`, the matrix at column `n`. -/
theorem take1_apply (s : V S8192x8192) (idx : IVec S8192x1 32) (i : Fin 8192) (n : Fin 8192)
    (h : idx (ix2 i 0) = BitVec.ofNat 32 n.val) : take1 s idx (ix2 i 0) = s (ix2 i n) := by
  have hw : wrap1 idx (ix3 i 0 0) = BitVec.ofNat 32 n.val := by
    pointwise [wrap1]
    rw [h]
    exact word_wrap n.isLt
  have hin : inside1 (wrap1 idx) (ix2 i 0) = 1#1 := by
    pointwise [inside1]
    rw [Finset.univ_unique, Finset.fold_singleton]
    show IntOp.andi (IntOp.andi (IntOp.cmpi .sge (wrap1 idx (ix3 i 0 0)) 0#32)
      (IntOp.cmpi .sle (wrap1 idx (ix3 i 0 0)) 8191#32)) 1#1 = 1#1
    rw [hw]
    exact word_inside n.isLt
  have ht : take1 s idx (ix2 i 0) = Host.gather gather_S8192x8192_S8192x1x1_S8192x1_n_1_0_0_1_2_11 s (wrap1 idx) (ix2 i 0) := by
    pointwise [take1]
    rw [hin]
    rfl
  rw [ht]
  refine (Gather.along_apply (by decide) gather_S8192x8192_S8192x1x1_S8192x1_n_1_0_0_1_2_11_wf s (wrap1 idx) i 0).trans ?_
  exact congrArg s (congrArg (ix2 i) (Fin.ext ((congrArg (fun w : BitVec 32 => min w.toInt.toNat (8192 - 1)) hw).trans
    (word_clamp n.isLt))))

/-- 8191 columns per row: where the index is `n`, the matrix at column `n`. -/
theorem take2_apply (s : V S8192x8192) (idx : IVec S8192x8191 32) (i : Fin 8192) (k : Fin 8191) (n : Fin 8192)
    (h : idx (ix2 i k) = BitVec.ofNat 32 n.val) : take2 s idx (ix2 i k) = s (ix2 i n) := by
  have hw : wrap2 idx (ix3 i k 0) = BitVec.ofNat 32 n.val := by
    pointwise [wrap2]
    rw [h]
    exact word_wrap n.isLt
  have hin : inside2 (wrap2 idx) (ix2 i k) = 1#1 := by
    pointwise [inside2]
    rw [Finset.univ_unique, Finset.fold_singleton]
    show IntOp.andi (IntOp.andi (IntOp.cmpi .sge (wrap2 idx (ix3 i k 0)) 0#32)
      (IntOp.cmpi .sle (wrap2 idx (ix3 i k 0)) 8191#32)) 1#1 = 1#1
    rw [hw]
    exact word_inside n.isLt
  have ht : take2 s idx (ix2 i k) = Host.gather gather_S8192x8192_S8192x8191x1_S8192x8191_n_1_0_0_1_2_11 s (wrap2 idx) (ix2 i k) := by
    pointwise [take2]
    rw [hin]
    rfl
  rw [ht]
  refine (Gather.along_apply (by decide) gather_S8192x8192_S8192x8191x1_S8192x8191_n_1_0_0_1_2_11_wf s (wrap2 idx) i k).trans ?_
  exact congrArg s (congrArg (ix2 i) (Fin.ext ((congrArg (fun w : BitVec 32 => min w.toInt.toNat (8192 - 1)) hw).trans
    (word_clamp n.isLt))))

/-! ## The logits and their cross entropy -/

/-- The first logit of a row is its score on the diagonal. -/
theorem logits_zero (s : V S8192x8192) (i : Fin 8192) : logits s (ix2 i 0) = s (ix2 i i) := by
  pointwise [logits]
  exact take1_apply s rows i i (rows_apply i 0)

/-- The others are its scores off the diagonal, in order. -/
theorem logits_succ (s : V S8192x8192) (i : Fin 8192) (k : Fin 8191) :
    logits s (ix2 i k.succ) = s (ix2 i (Fin.succAbove i k)) := by
  pointwise [logits]
  rw [dif_neg (by rw [Fin.val_succ]; omega)]
  exact take2_apply s offDiag i k _ (offDiag_apply i k)

/-- The logits of a row are its scores in another order: a sum over the ones is the sum over the others. -/
theorem sum_logits (s : V S8192x8192) (i : Fin 8192) (f : EReal → EReal) :
    ∑ k : Fin 8192, f (logits s (ix2 i k)) = ∑ k : Fin 8192, f (s (ix2 i k)) :=
  Algebra.sum_cons_succAbove i (fun k => f (s (ix2 i k))) (fun k => f (logits s (ix2 i k)))
    (congrArg f (logits_zero s i)) (fun k => congrArg f (logits_succ s i k))

/-- Whatever the maxima are, every row's shift is a real number. -/
theorem shift_real (p : V S8192) (i : Fin 8192) : ∃ x : ℝ, shift p (ix1 i) = (x : EReal) := by
  obtain ⟨x, hx⟩ := Algebra.guard_real (p (ix1 i))
  refine ⟨x, ?_⟩
  pointwise [shift]
  rw [Ideal.absf_def, show Ideal.ofBits FTy.f32 0x7F800000#32 = (⊤ : EReal) by simp [Ideal.ofBits, Ideal.ieee]]
  exact hx

/-- A row's log-sum-exp does not depend on the shift, as long as that is real. -/
theorem logZ_apply (l : V S8192x8192) (q : V S8192) (i : Fin 8192) (h : ∃ x : ℝ, q (ix1 i) = (x : EReal)) :
    logZ l q (ix1 i) = Ideal.log (∑ k : Fin 8192, Ideal.exp (l (ix2 i k))) := by
  obtain ⟨x, hx⟩ := h
  pointwise [logZ]
  rw [hx]
  exact Algebra.logsumexp_shift _ x

/-- A row's cross entropy is its log-sum-exp less its first logit. -/
theorem entropy_apply (l : V S8192x8192) (z : V S8192) (i : Fin 8192) :
    entropy l z (ix1 i) = (z (ix1 i) - l (ix2 i 0) : EReal) := by
  pointwise [entropy]

/-- The mean is the sum over 8192. -/
theorem mean_apply (e : V S8192) (j : S1.Idx) :
    mean e j = Ideal.div (∑ i : Fin 8192, e (ix1 i)) (Ideal.ofBits .f32 0x46000000#32) := by
  pointwise [mean]

/-- The mean cross entropy of the logits of the scores `s`, row by row. -/
theorem crossEntropy_apply (s : V S8192x8192) (j : S1.Idx) :
    crossEntropy (logits s) j
      = Ideal.div (∑ i : Fin 8192, (Ideal.log (∑ k : Fin 8192, Ideal.exp (s (ix2 i k))) - s (ix2 i i)))
          (Ideal.ofBits .f32 0x46000000#32) := by
  have h : ∀ i : Fin 8192, entropy (logits s) (logZ (logits s) (shift (peak (logits s)))) (ix1 i)
      = (Ideal.log (∑ k : Fin 8192, Ideal.exp (s (ix2 i k))) - s (ix2 i i) : EReal) := fun i => by
    rw [entropy_apply, logZ_apply _ _ _ (shift_real _ i), sum_logits, logits_zero]
  unfold crossEntropy
  rw [mean_apply]
  simp only [h]

/-- The mean cross entropy of the logits of two arrays' scores is their loss. -/
theorem loss_eq (a b : V S8192x32) : crossEntropy (logits (scores a b)) = fun _ => Spec.loss a b := by
  refine funext fun j => (crossEntropy_apply _ j).trans ?_
  unfold Spec.loss Spec.rowLoss
  simp only [scores_apply]

/-- THE REFERENCE'S VALUE: the loss of the two arrays. -/
theorem result_value (m : (ℓ : Loc nD τ sig) → Buf (Elt Ideal) ℓ) (c : Dev nD) :
    Value.res_out0 m c
      = fun _ => Spec.loss (m ((c.tc : Thread nD τ).loc main_arg0)) (m ((c.tc : Thread nD τ).loc main_arg1)) :=
  (result_eq m c).trans
    (loss_eq (m ((c.tc : Thread nD τ).loc main_arg0)) (m ((c.tc : Thread nD τ).loc main_arg1)))

end Cert.ReferenceIdeal.Stages

end
-- ==== Proof.Claims.lean ====
/- The five claims: each program runs and leaves its arguments and semaphores as they were, the idealized kernel
   differs from the kernel by the two named constants, and kernel and reference compute the same result. -/
module

public import proofs.«01_k».proof.Defs
public import proofs.«01_k».proof.Proof.Gen.Kernel.Frame
public import proofs.«01_k».proof.Proof.KernelValue
public import proofs.«01_k».proof.Proof.ReferenceValue
public import Idealize.ShloMosaic.Lib.Quiescent

@[expose] public section

noncomputable section

namespace Cert.Proof.Claims

open Idealize.ShloMosaic Idealize.ShloMosaic.TcCoe Idealize.SL.Sem

/-- The kernel runs, keeps its arguments and ends quiescent. -/
theorem quiescent_kernel : Cert.quiescent_Kernel := fun m ρ _ => Cert.Kernel.Gen.frame m ρ

/-- The idealized kernel runs, keeps its arguments and ends quiescent. -/
theorem quiescent_ideal : Cert.quiescent_KernelIdeal := fun m ρ _ => Cert.KernelIdeal.Gen.frame m ρ

/-- The reference runs, keeps its arguments and ends quiescent: it has no semaphore. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are `1 / log 2` and `log 2`. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- On equal arguments both programs end with the loss of those arguments. -/
theorem algebraic : Cert.algebraic_KernelIdeal_ReferenceIdeal := by
  intro m ρ m' ρ' _ hagree
  refine ⟨fun c => Cert.KernelIdeal.Points.result m c, Cert.KernelIdeal.Points.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Stages.result_value m' c).trans (funext fun _ => ?_)
  exact congrArg₂ Cert.Spec.loss (hagree c).1 (hagree c).2

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts,
    Claims.quiescent_kernel, Claims.quiescent_ideal, Claims.quiescent_reference, Claims.preserves, Claims.algebraic⟩

end Cert.Proof

end
